-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x3x4096x4096 : Shape := ⟨4, ![1, 3, 4096, 4096]⟩
abbrev S_ : Shape := ⟨0, ![]⟩

class Facts : Prop where
  bcast_S_S1x3x4096x4096 : S_.BroadcastsInDim S1x3x4096x4096 (![] : Fin 0 → Fin S1x3x4096x4096.rank)

variable [Facts]

def fn {F : FTy → Type} [FloatOps F] (main_arg0 : FVec F S1x3x4096x4096 .f32) : IVec S1x3x4096x4096 1 :=
  let main_v0 : FVec F S1x3x4096x4096 .f32 := Host.absf main_arg0
  let main_cst : FVec F S_ .f32 := constant S_ .f32 0x7F800000#32
  let main_v1 : FVec F S1x3x4096x4096 .f32 := broadcastInDim S1x3x4096x4096 ![] bcast_S_S1x3x4096x4096 main_cst
  let main_v2 : IVec S1x3x4096x4096 1 := cmpf .olt main_v0 main_v1
  main_v2
-- ==== Kernel.lean ====
abbrev S1x3x4096x4096 : Shape := ⟨4, ![1, 3, 4096, 4096]⟩
abbrev S3x4096x4096 : Shape := ⟨3, ![3, 4096, 4096]⟩
abbrev S1x1x128 : Shape := ⟨3, ![1, 1, 128]⟩
abbrev S3x256x4096 : Shape := ⟨3, ![3, 256, 4096]⟩
abbrev S3x8x4096 : Shape := ⟨3, ![3, 8, 4096]⟩
abbrev S768x4096 : Shape := ⟨2, ![768, 4096]⟩
abbrev S4096x8 : Shape := ⟨2, ![4096, 8]⟩
abbrev S768x8 : Shape := ⟨2, ![768, 8]⟩
abbrev S1x768x8 : Shape := ⟨3, ![1, 768, 8]⟩
abbrev S1 : Shape := ⟨1, ![1]⟩
abbrev S1x1x1 : Shape := ⟨3, ![1, 1, 1]⟩
abbrev S3x1x4096 : Shape := ⟨3, ![3, 1, 4096]⟩
abbrev S3x4096 : Shape := ⟨2, ![3, 4096]⟩
abbrev S3x4095 : Shape := ⟨2, ![3, 4095]⟩
abbrev S1x3x4095 : Shape := ⟨3, ![1, 3, 4095]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S1x3x4096x4096, .f32⟩
  | .hbm, ⟨1, _⟩ => ⟨S3x4096x4096, .f32⟩
  | .hbm, ⟨2, _⟩ => ⟨S1x1x128, .f32⟩
  | .hbm, ⟨3, _⟩ => ⟨S1x1x1, .f32⟩
  | .hbm, ⟨4, _⟩ => ⟨S_, .f32⟩
  | .local _ .vmem, ⟨0, _⟩ => ⟨S3x256x4096, .f32⟩
  | .local _ .vmem, ⟨1, _⟩ => ⟨S3x256x4096, .f32⟩
  | .local _ .vmem, ⟨2, _⟩ => ⟨S1x1x128, .f32⟩
  | .local _ .vmem, ⟨3, _⟩ => ⟨S3x8x4096, .f32⟩
  | _, _ => ⟨S1x3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S3x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1x3x4096x4096 : Shape := ⟨4, ![1, 3, 4096, 4096]⟩
abbrev S3x4096x4096 : Shape := ⟨3, ![3, 4096, 4096]⟩
abbrev S3x4095x4095 : Shape := ⟨3, ![3, 4095, 4095]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S1x3x4096x4096, .f32⟩
  | .hbm, ⟨1, _⟩ => ⟨S3x4096x4096, .f32⟩
  | .hbm, ⟨2, _⟩ => ⟨S3x4095x4095, .f32⟩
  | .hbm, ⟨3, _⟩ => ⟨S3x4095x4095, .f32⟩
  | .hbm, ⟨4, _⟩ => ⟨S3x4095x4095, .f32⟩
  | .hbm, ⟨5, _⟩ => ⟨S3x4095x4095, .f32⟩
  | .hbm, ⟨6, _⟩ => ⟨S3x4095x4095, .f32⟩
  | .hbm, ⟨7, _⟩ => ⟨S3x4095x4095, .f32⟩
  | .hbm, ⟨8, _⟩ => ⟨S_, .f32⟩
  | .hbm, ⟨9, _⟩ => ⟨S_, .f32⟩
  | .hbm, ⟨10, _⟩ => ⟨S3x4095x4095, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S1x3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Body.lean ====
/-
  The kernel's body at one grid point. It reads a block of 256 rows of the image, adds one number to the accumulator and
  keeps the block's last row in the scratch buffer for the next point. At the first point it starts the accumulator from
  zero; at the last point it replaces the accumulator by its square root. `added` names what the accumulator holds after
  the addition; the three theorems at the end run the body at the first, a middle and the last point.
-/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.Tv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body is at its first grid point: the test that guards the reset of the accumulator. -/
abbrev AtFirst (i : grid0.Coords) : Prop :=
  (Scalar.cmpi .ne (Scalar.extui (Scalar.cmpi .eq (BitVec.ofNat 32 (i 0).val) 0#32)) 0#32) = 1#1

/-- The body is at its last grid point: the test that guards the square root. -/
abbrev AtLast (i : grid0.Coords) : Prop :=
  (Scalar.cmpi .ne (Scalar.extui (Scalar.cmpi .eq (BitVec.ofNat 32 (i 0).val) 15#32)) 0#32) = 1#1

/-- The first row of a block, as an array of one row per channel. -/
def topRow (x : Vec F S3x256x4096 .f32) : Vec F S3x1x4096 .f32 := fun j =>
  x ((Rect.unit (s := S3x256x4096) ![0, 0, 0] S3x1x4096.size inb_S3x256x4096_S3x1x4096_0_0_0).toLoadRect.idx j)

/-- The last row of a block. -/
def bottomRow (x : Vec F S3x256x4096 .f32) : Vec F S3x1x4096 .f32 := fun j =>
  x ((Rect.unit (s := S3x256x4096) ![0, 255, 0] S3x1x4096.size inb_S3x256x4096_S3x1x4096_0_255_0).toLoadRect.idx j)

/-- The one row of the scratch buffer that the body uses. -/
def keptRow (s : Vec F S3x8x4096 .f32) : Vec F S3x1x4096 .f32 := fun j =>
  s ((Rect.unit (s := S3x8x4096) ![0, 0, 0] S3x1x4096.size inb_S3x8x4096_S3x1x4096_0_0_0).toLoadRect.idx j)

/-- What the accumulator holds after the body's addition at grid position `i`: on a block `x`, with `r` the row carried
    from the block before and `o` the accumulator so far. -/
def added (i : grid0.Coords) (x : Vec F S3x256x4096 .f32) (r : Vec F S3x1x4096 .f32) (o : Vec F S1x1x128 .f32) :
    Vec F S1x1x128 .f32 :=
  k0_pay2 (BitVec.ofNat 32 (i 0).val) (k0_pay6 (bottomRow x)) (k0_pay7 x (topRow x) (bottomRow x))
    (k0_pay8 (topRow x) r) o

/-- `added` from what the loads read. -/
theorem added_of_loads (i : grid0.Coords) {x v0 : Vec F S3x256x4096 .f32} {v22 v24 v34 r : Vec F S3x1x4096 .f32}
    {v60 o : Vec F S1x1x128 .f32} (h0 : v0 = x) (h22 : v22 = topRow x) (h24 : v24 = bottomRow x) (h34 : v34 = r)
    (h60 : v60 = o) :
    k0_pay2 (BitVec.ofNat 32 (i 0).val) (k0_pay6 v24) (k0_pay7 v0 v22 v24) (k0_pay8 v22 v34) v60 = added i x r o := by
  subst h0 h22 h24 h34 h60; rfl

/-- A row flattened and unflattened is the row. -/
theorem pay3_pay6 (r : Vec F S3x1x4096 .f32) : k0_pay3 (k0_pay6 r) = r := by
  unfold k0_pay3 k0_pay6
  exact shapeCast_shapeCast _ _ _

/-- After the body has stored a row into the scratch buffer, that row is what the buffer keeps. -/
theorem keptRow_put (v : View sig .tc .vmem S3x8x4096 .f32) (f : v.ty.Contents (Elt F)) (w : Vec F S3x1x4096 .f32) :
    keptRow (v.read (Elt F) (v.writes (Elt F) f
      [⟨Rect.unit (s := S3x8x4096) ![0, 0, 0] S3x1x4096.size inb_S3x8x4096_S3x1x4096_0_0_0, w⟩])) = w := by
  funext j
  unfold keptRow
  exact View.read_writes_cons_unit_of_mem v f _ w [] _ j rfl fun a =>
    congrArg (_ + ·) (Nat.one_mul _)

section Loads

variable (arg1 : Memref sig .tc .vmem S3x256x4096 .f32) (harg1 : arg1.IsWhole)
    (arg2 : Memref sig .tc .vmem S1x1x128 .f32) (harg2 : arg2.IsWhole)
    (arg3 : Memref sig .tc .vmem S3x8x4096 .f32) (harg3 : arg3.IsWhole)

/-- The load of a block's first row, the buffer holding the block. -/
theorem load_top (x : Vec F S3x256x4096 .f32) :
    View.readAt (Elt F) arg1.view (Rect.unit (s := S3x256x4096) ![0, 0, 0] S3x1x4096.size
      inb_S3x256x4096_S3x1x4096_0_0_0).toLoadRect (harg1.unread x) = topRow x :=
  funext fun j => harg1.readAt_unread x _ j

/-- The load of a block's last row. -/
theorem load_bottom (x : Vec F S3x256x4096 .f32) :
    View.readAt (Elt F) arg1.view (Rect.unit (s := S3x256x4096) ![0, 255, 0] S3x1x4096.size
      inb_S3x256x4096_S3x1x4096_0_255_0).toLoadRect (harg1.unread x) = bottomRow x :=
  funext fun j => harg1.readAt_unread x _ j

/-- The load of a whole block. -/
theorem load_block (x : Vec F S3x256x4096 .f32) :
    View.readAt (Elt F) arg1.view (Rect.unit (s := S3x256x4096) ![0, 0, 0] S3x256x4096.size
      inb_S3x256x4096_S3x256x4096_0_0_0).toLoadRect (harg1.unread x) = x :=
  (View.readAt_full (s := S3x256x4096) _ _ _).trans (harg1.read_unread x)

/-- The load of the accumulator. -/
theorem load_acc (o : Vec F S1x1x128 .f32) :
    View.readAt (Elt F) arg2.view (Rect.unit (s := S1x1x128) ![0, 0, 0] S1x1x128.size
      inb_S1x1x128_S1x1x128_0_0_0).toLoadRect (harg2.unread o) = o :=
  (View.readAt_full (s := S1x1x128) _ _ _).trans (harg2.read_unread o)

/-- The load of the row the scratch buffer keeps. -/
theorem load_kept (s : Vec F S3x8x4096 .f32) :
    View.readAt (Elt F) arg3.view (Rect.unit (s := S3x8x4096) ![0, 0, 0] S3x1x4096.size
      inb_S3x8x4096_S3x1x4096_0_0_0).toLoadRect (harg3.unread s) = keptRow s :=
  funext fun j => harg3.readAt_unread s _ j

end Loads

set_option maxHeartbeats 1000000 in
/-- THE BODY AT THE FIRST POINT: on a block `x`, the accumulator and the scratch buffer at anything, it leaves the block as it was,
    the accumulator at zero plus what the point adds, and keeps the block's last row. -/
theorem body_first (c : Dev nD) (i : grid0.Coords) (arg1 : Memref sig .tc .vmem S3x256x4096 .f32) (harg1 : arg1.IsWhole)
    (arg2 : Memref sig .tc .vmem S1x1x128 .f32) (harg2 : arg2.IsWhole)
    (arg3 : Memref sig .tc .vmem S3x8x4096 .f32) (harg3 : arg3.IsWhole) (hc0 : AtFirst i) (hc1 : ¬AtLast i)
    (x : Vec F S3x256x4096 .f32) (o : Vec F S1x1x128 .f32) (s : Vec F S3x8x4096 .f32) (E : Set ℕ) (K : PUnit → sProp 𝕄) :
    iprop(owns (c : Thread nD τ) arg1 fullShare x ∗ owns (c : Thread nD τ) arg2 fullShare o ∗ owns (c : Thread nD τ) arg3 fullShare s
        ∗ (iprop(owns (c : Thread nD τ) arg1 fullShare x ∗ owns (c : Thread nD τ) arg2 fullShare (added i x (keptRow s) k0_pay1)
            ∗ (∃ d, ⌜keptRow d = bottomRow x⌝ ∗ owns (c : Thread nD τ) arg3 fullShare d)) -∗ K ⟨⟩))
      ⊢ wp frame (wpE (defs₀ (F := F)) Variants.none c none) E (cc0_tv_loss i arg1 harg1 arg2 harg2 arg3 harg3) K := by
  simp only [cc0_tv_loss_eq_skeleton]; unfold cc0_tv_loss_skel
  simp only [k0_part1_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    refine (View.read_writes_full (s := S1x1x128) _ _ _ _ _).trans ?_
    have h := added_of_loads (F := F) i (load_block arg1 harg1 x) (load_top arg1 harg1 x)
      (load_bottom arg1 harg1 x) (load_kept arg3 harg3 s)
      (View.readCov_full (s := S1x1x128) arg2.view inb_S1x1x128_S1x1x128_0_0_0 inb_S1x1x128_S1x1x128_0_0_0 k0_pay1 [])
    exact h
  iexists _
  isplitr; swap
  · iexists _; isplitr; swap; · iexact H2
    ipureintro; rfl
  ipureintro
  refine (keptRow_put _ _ _).trans ?_
  have h := (congrArg (fun r => k0_pay3 (k0_pay6 r)) (load_bottom arg1 harg1 x)).trans (pay3_pay6 (bottomRow x))
  exact h

set_option maxHeartbeats 1000000 in
/-- THE BODY AT A MIDDLE POINT: on a block `x`, the accumulator at `o` and the scratch buffer at `s`, it leaves the block as it was,
    the accumulator at `o` plus what the point adds, and keeps the block's last row. -/
theorem body_middle (c : Dev nD) (i : grid0.Coords) (arg1 : Memref sig .tc .vmem S3x256x4096 .f32) (harg1 : arg1.IsWhole)
    (arg2 : Memref sig .tc .vmem S1x1x128 .f32) (harg2 : arg2.IsWhole)
    (arg3 : Memref sig .tc .vmem S3x8x4096 .f32) (harg3 : arg3.IsWhole) (hc0 : ¬AtFirst i) (hc1 : ¬AtLast i)
    (x : Vec F S3x256x4096 .f32) (o : Vec F S1x1x128 .f32) (s : Vec F S3x8x4096 .f32) (E : Set ℕ) (K : PUnit → sProp 𝕄) :
    iprop(owns (c : Thread nD τ) arg1 fullShare x ∗ owns (c : Thread nD τ) arg2 fullShare o ∗ owns (c : Thread nD τ) arg3 fullShare s
        ∗ (iprop(owns (c : Thread nD τ) arg1 fullShare x ∗ owns (c : Thread nD τ) arg2 fullShare (added i x (keptRow s) o)
            ∗ (∃ d, ⌜keptRow d = bottomRow x⌝ ∗ owns (c : Thread nD τ) arg3 fullShare d)) -∗ K ⟨⟩))
      ⊢ wp frame (wpE (defs₀ (F := F)) Variants.none c none) E (cc0_tv_loss i arg1 harg1 arg2 harg2 arg3 harg3) K := by
  simp only [cc0_tv_loss_eq_skeleton]; unfold cc0_tv_loss_skel
  simp only [k0_part1_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    refine (View.read_writes_full (s := S1x1x128) _ _ _ _ _).trans ?_
    have h := added_of_loads i (load_block arg1 harg1 x) (load_top arg1 harg1 x)
      (load_bottom arg1 harg1 x) (load_kept arg3 harg3 s) (load_acc arg2 harg2 o)
    exact h
  iexists _
  isplitr; swap
  · iexists _; isplitr; swap; · iexact H2
    ipureintro; rfl
  ipureintro
  refine (keptRow_put _ _ _).trans ?_
  have h := (congrArg (fun r => k0_pay3 (k0_pay6 r)) (load_bottom arg1 harg1 x)).trans (pay3_pay6 (bottomRow x))
  exact h

set_option maxHeartbeats 1000000 in
/-- THE BODY AT THE LAST POINT: on a block `x`, the accumulator at `o` and the scratch buffer at `s`, it leaves the block as it was,
    the accumulator at the square root of `o` plus what the point adds, and keeps the block's last row. -/
theorem body_last (c : Dev nD) (i : grid0.Coords) (arg1 : Memref sig .tc .vmem S3x256x4096 .f32) (harg1 : arg1.IsWhole)
    (arg2 : Memref sig .tc .vmem S1x1x128 .f32) (harg2 : arg2.IsWhole)
    (arg3 : Memref sig .tc .vmem S3x8x4096 .f32) (harg3 : arg3.IsWhole) (hc0 : ¬AtFirst i) (hc1 : AtLast i)
    (x : Vec F S3x256x4096 .f32) (o : Vec F S1x1x128 .f32) (s : Vec F S3x8x4096 .f32) (E : Set ℕ) (K : PUnit → sProp 𝕄) :
    iprop(owns (c : Thread nD τ) arg1 fullShare x ∗ owns (c : Thread nD τ) arg2 fullShare o ∗ owns (c : Thread nD τ) arg3 fullShare s
        ∗ (iprop(owns (c : Thread nD τ) arg1 fullShare x ∗ owns (c : Thread nD τ) arg2 fullShare (k0_pay4 (added i x (keptRow s) o))
            ∗ (∃ d, ⌜keptRow d = bottomRow x⌝ ∗ owns (c : Thread nD τ) arg3 fullShare d)) -∗ K ⟨⟩))
      ⊢ wp frame (wpE (defs₀ (F := F)) Variants.none c none) E (cc0_tv_loss i arg1 harg1 arg2 harg2 arg3 harg3) K := by
  simp only [cc0_tv_loss_eq_skeleton]; unfold cc0_tv_loss_skel
  simp only [k0_part1_eq_skeleton]
  unfold owns
  iintro ⟨⟨%f0, %hf0, H0⟩, ⟨%f1, %hf1, H1⟩, ⟨%f2, %hf2, H2⟩, Hk⟩
  obtain rfl := harg1.eq_unread hf0
  obtain rfl := harg2.eq_unread hf1
  obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    refine (View.read_writes_full (s := S1x1x128) _ _ _ _ _).trans ?_
    have h := added_of_loads i (load_block arg1 harg1 x) (load_top arg1 harg1 x)
      (load_bottom arg1 harg1 x) (load_kept arg3 harg3 s) (load_acc arg2 harg2 o)
    exact congrArg k0_pay4 ((View.readAt_writes_full (s := S1x1x128) _ _ _ _ _ _).trans h)
  iexists _
  isplitr; swap
  · iexists _; isplitr; swap; · iexact H2
    ipureintro; rfl
  ipureintro
  refine (keptRow_put _ _ _).trans ?_
  have h := (congrArg (fun r => k0_pay3 (k0_pay6 r)) (load_bottom arg1 harg1 x)).trans (pay3_pay6 (bottomRow x))
  exact h

end Cert.Tv

end
-- ==== Proof.Run.lean ====
/-
  The run of the kernel's program over its sixteen grid points. `total` is what the accumulator holds after each point,
  `left` what the result's buffer holds then, and `carried` what the scratch buffer keeps between the points. The body
  meets the launch's obligation at every point, so the whole program runs, and its argument and counters are as they were.
-/
module

public import proofs.«01_k».proof.Proof.Body
public import Idealize.ShloMosaic.Lib.Claim

@[expose] public section

set_option maxRecDepth 16384

noncomputable section

namespace Cert.Tv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- Grid point number `n`. -/
def pt (n : ℕ) : Fin cfg0.N := ⟨n % 16, lt_of_lt_of_eq (Nat.mod_lt n (by decide)) N_0.symm⟩

/-- A point is the point of its number. -/
theorem pt_val (t : Fin cfg0.N) : pt t.val = t :=
  Fin.ext (Nat.mod_eq_of_lt (lt_of_lt_of_eq t.isLt N_0))

/-- A point's grid coordinate is its number. -/
theorem coords_val (t : Fin cfg0.N) : (grid0.coords t 0).val = t.val := by
  have ht : t.val < 16 := lt_of_lt_of_eq t.isLt N_0
  have e : (grid0.coords t 0).val = t.val / 1 % 16 := Pipeline.Grid.coords_val t 0 (by decide) rfl
  rw [e, Nat.div_one, Nat.mod_eq_of_lt ht]

/-- The reset is taken at the first point only. -/
theorem atFirst_iff (t : Fin cfg0.N) : AtFirst (grid0.coords t) ↔ t.val = 0 := by
  have ht : t.val < 16 := lt_of_lt_of_eq t.isLt N_0
  simp only [AtFirst, coords_val t]
  word_cmp

/-- The square root is taken at the last point only. -/
theorem atLast_iff (t : Fin cfg0.N) : AtLast (grid0.coords t) ↔ t.val = 15 := by
  have ht : t.val < 16 := lt_of_lt_of_eq t.isLt N_0
  simp only [AtLast, coords_val t]
  word_cmp

/-- At the first point what is added does not depend on the row carried in. -/
theorem added_first (i : grid0.Coords) (hi : (i 0).val = 0) (x : Vec F S3x256x4096 .f32) (r r' : Vec F S3x1x4096 .f32)
    (o : Vec F S1x1x128 .f32) : added i x r o = added i x r' o := by
  have h0 : Scalar.cmpi .sgt (BitVec.ofNat 32 0) 0#32 = 0#1 := by decide
  have hs : ∀ a b : F .f32, Scalar.select 0#1 a b = b := fun a b => rfl
  unfold added k0_pay2
  simp only [hi, h0, hs]

/-! ## What the accumulator holds, point by point -/

/-- The block of the image that grid point `n` works on. -/
def block (c : Dev nD) (n : ℕ) : Vec F S3x256x4096 .f32 := iblk m c 0 (pt n)

/-- The accumulator after grid points `0` to `n`, before any square root. -/
def total (c : Dev nD) : ℕ → Vec F S1x1x128 .f32
  | 0 => added (grid0.coords (pt 0)) (block m c 0) (bottomRow (block m c 0)) k0_pay1
  | n + 1 => added (grid0.coords (pt (n + 1))) (block m c (n + 1)) (bottomRow (block m c n)) (total c n)

/-- What the body leaves in the result's buffer at grid point `n`: the accumulator, at the last point its square root. -/
def left (c : Dev nD) (n : ℕ) : Vec F S1x1x128 .f32 := if n = 15 then k0_pay4 (total m c n) else total m c n

/-! ## The proof data -/

/-- The scratch buffer of the kernel. -/
abbrev scratch : Memref sig .tc .vmem S3x8x4096 .f32 := Memref.whole cc0_scratch0

/-- Between the points: after point `n` the scratch buffer keeps the last row of that point's block; nothing is said of
    it before the first point. -/
def carried (c : Dev nD) (n : ℕ) : sProp 𝕄 :=
  iprop((∃ d, ⌜∀ k, n = k + 1 → keptRow d = bottomRow (block m c k)⌝ ∗ owns (c : Thread nD τ) scratch fullShare d)
    ∗ ∃ r, prngReg c r)

/-- The launch's own statement of what lies beside the windows, the scratch buffer owned as a memref. -/
theorem beside_eq (c : Dev nD) : (Pipeline.ΦA spec0 c : sProp 𝕄)
    = iprop(iprop(∃ d, owns (c : Thread nD τ) scratch fullShare d) ∗ ∃ r, prngReg c r) := by
  unfold Pipeline.ΦA; rw [scopedRest0_eq]; simp only [scratch, owns_whole]; try rfl

/-- The proof data: the image's blocks stay as they are, the result's buffer runs through `left`, the scratch buffer
    through `carried`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => left m c t.val
  Φ t := carried m c t.val
  q _ := fullShare
  owed _ := 0

/-- The arrays the launch starts from. -/
theorem dats_A (c : Dev nD) (w : Fin cfg0.W) : (dats m 0 c).A w = V m c (Pipeline.arrRef spec0 w) := by
  dsimp only [dats]
/-- The body leaves the image's block in place. -/
theorem after_image (c : Dev nD) (t : Fin cfg0.N) : (dats m 0 c).after 0 t = iblk m c 0 t := by dsimp only [dats]
/-- The body leaves `left` in the result's buffer. -/
theorem after_result (c : Dev nD) (t : Fin cfg0.N) : (dats m 0 c).after 1 t = left m c t.val := by dsimp only [dats]

/-- The image's buffer holds the point's block when the body runs. -/
theorem before_image (c : Dev nD) (t : Fin cfg0.N) (d) : (dats m 0 c).before 0 t d = block m c t.val := by
  unfold block; rw [pt_val]
  exact before0_0_of m (dats m 0 c) (dats_A m c 0) (after_image m c) t d

/-- The result's buffer holds, past the first point, the accumulator of the points before. -/
theorem before_result (c : Dev nD) (t : Fin cfg0.N) (n : ℕ) (h : t.val = n + 1) (d) :
    (dats m 0 c).before 1 t d = total m c n := by
  have ht : t.val < 16 := lt_of_lt_of_eq t.isLt N_0
  rw [Dat.before_out_kept _ 1 rfl t (by omega)
    (Bool.eq_false_iff.mpr fun h' => by have := (flush0_1 _).mp h'; dsimp only at this; omega)
    (fun _ => rfl) (fun _ _ => rfl), after_result]
  show left m c (t.val - 1) = _
  rw [show t.val - 1 = n by omega]
  exact if_neg (by omega)

/-! ## The body obligation -/

/-- The current buffer of the image's window at a point. -/
abbrev imageBuf (t : Fin cfg0.N) : Memref sig .tc .vmem S3x256x4096 .f32 := win0_0.stage (cfg0.slots t 0)
/-- The current buffer of the result's window at a point. -/
abbrev resultBuf (t : Fin cfg0.N) : Memref sig .tc .vmem S1x1x128 .f32 := win0_1.stage (cfg0.slots t 1)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (imageBuf t) fullShare ((dats m 0 c).before 0 t d))
    ∗ (∃ d, owns (c : Thread nD τ) (resultBuf t) fullShare ((dats m 0 c).before 1 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (imageBuf t) fullShare ((dats m 0 c).after 0 t)
    ∗ owns (c : Thread nD τ) (resultBuf t) fullShare ((dats m 0 c).after 1 t))

/-- What the body leaves in the result's buffer at the first point. -/
theorem left_first (c : Dev nD) (t : Fin cfg0.N) (h : t.val = 0) (r : Vec F S3x1x4096 .f32) :
    added (grid0.coords t) (block m c t.val) r k0_pay1 = left m c t.val := by
  have e := added_first (grid0.coords t) ((coords_val t).trans h) (block m c t.val) r (bottomRow (block m c t.val)) k0_pay1
  refine e.trans ?_
  have hp : pt 0 = t := by rw [← h]; exact pt_val t
  rw [h]; unfold left; rw [if_neg (by decide)]; unfold total; rw [hp]

/-- At a middle point. -/
theorem left_middle (c : Dev nD) (t : Fin cfg0.N) (n : ℕ) (h : t.val = n + 1) (h' : ¬t.val = 15) :
    added (grid0.coords t) (block m c t.val) (bottomRow (block m c n)) (total m c n) = left m c t.val := by
  have hp : pt (n + 1) = t := by rw [← h]; exact pt_val t
  unfold left; rw [if_neg h', h]
  show _ = added _ _ _ _
  rw [hp]

/-- At the last point. -/
theorem left_last (c : Dev nD) (t : Fin cfg0.N) (n : ℕ) (h : t.val = n + 1) (h' : t.val = 15) :
    k0_pay4 (added (grid0.coords t) (block m c t.val) (bottomRow (block m c n)) (total m c n)) = left m c t.val := by
  have hp : pt (n + 1) = t := by rw [← h]; exact pt_val t
  unfold left; rw [if_pos h', h]
  show _ = k0_pay4 (added _ _ _ _)
  rw [hp]

set_option maxHeartbeats 1000000 in
/-- The body at any point: from the invariant, the block and the accumulator so far to the invariant, the block and
    the accumulator one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_image]
  rw [show (dats m 0 c).Φ t.castSucc = carried m c t.val from rfl, show (dats m 0 c).Φ t.succ = carried m c (t.val + 1) from rfl,
    show (dats m 0 c).owesAt () t.succ = (dats m 0 c).owesAt () t.castSucc from rfl, after_image, after_result]
  rw [show iblk m c 0 t = block m c t.val by unfold block; rw [pt_val]]
  unfold carried
  have hN : t.val < 16 := lt_of_lt_of_eq t.isLt N_0
  rcases hn : t.val with _ | n
  · have hl := left_first m c t hn
    rw [hn] at hl
    iintro ⟨⟨⟨%d, %hd, HS⟩, Hg⟩, Ho, ⟨%d0, H0⟩, ⟨%d1, H1⟩⟩
    iapply (body_first c (grid0.coords t) _ _ _ _ _ _ ((atFirst_iff t).mpr hn)
      (fun h => by have := (atLast_iff t).mp h; omega) (block m c 0) _ d Set.univ _)
    isplitl [H0]; · iexact H0
    isplitl [H1]; · iexact H1
    isplitl [HS]; · iexact HS
    rw [hl]
    iintro ⟨H0, H1, ⟨%d', %hd', HS⟩⟩
    isplitl [HS Hg]
    · isplitl [HS]
      · iexists d'; isplitr
        · ipureintro; intro k hk; obtain rfl : k = 0 := by omega
          exact hd'
        iexact HS
      iexact Hg
    isplitl [Ho]; · iexact Ho
    isplitl [H0]; · iexact H0
    iexact H1
  · simp only [before_result m c t n hn]
    by_cases h1 : t.val = 15
    · have hl := left_last m c t n hn h1
      rw [hn] at hl
      iintro ⟨⟨⟨%d, %hd, HS⟩, Hg⟩, Ho, ⟨%d0, H0⟩, ⟨%d1, H1⟩⟩
      rw [← hd n rfl] at hl
      iapply (body_last c (grid0.coords t) _ _ _ _ _ _ (fun h => by have := (atFirst_iff t).mp h; omega)
        ((atLast_iff t).mpr h1) (block m c (n + 1)) (total m c n) d Set.univ _)
      isplitl [H0]; · iexact H0
      isplitl [H1]; · iexact H1
      isplitl [HS]; · iexact HS
      rw [hl]
      iintro ⟨H0, H1, ⟨%d', %hd', HS⟩⟩
      isplitl [HS Hg]
      · isplitl [HS]
        · iexists d'; isplitr
          · ipureintro; intro k hk; obtain rfl : k = n + 1 := by omega
            exact hd'
          iexact HS
        iexact Hg
      isplitl [Ho]; · iexact Ho
      isplitl [H0]; · iexact H0
      iexact H1
    · have hl := left_middle m c t n hn h1
      rw [hn] at hl
      iintro ⟨⟨⟨%d, %hd, HS⟩, Hg⟩, Ho, ⟨%d0, H0⟩, ⟨%d1, H1⟩⟩
      rw [← hd n rfl] at hl
      iapply (body_middle c (grid0.coords t) _ _ _ _ _ _ (fun h => by have := (atFirst_iff t).mp h; omega)
        (fun h => h1 ((atLast_iff t).mp h)) (block m c (n + 1)) (total m c n) d Set.univ _)
      isplitl [H0]; · iexact H0
      isplitl [H1]; · iexact H1
      isplitl [HS]; · iexact HS
      rw [hl]
      iintro ⟨H0, H1, ⟨%d', %hd', HS⟩⟩
      isplitl [HS Hg]
      · isplitl [HS]
        · iexists d'; isplitr
          · ipureintro; intro k hk; obtain rfl : k = n + 1 := by omega
            exact hd'
          iexact HS
        iexact Hg
      isplitl [Ho]; · iexact Ho
      isplitl [H0]; · iexact H0
      iexact H1

/-- The table's row for the kernel at a point is the kernel on the point's buffers. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is asked of the scratch buffer. -/
theorem carried_in (c : Dev nD) : (Pipeline.ΦA spec0 c : sProp 𝕄) ⊢ carried m c 0 := by
  rw [beside_eq]; unfold carried
  iintro ⟨⟨%d, HS⟩, Hg⟩
  isplitl [HS]
  · iexists d; isplitr
    · ipureintro; intro k hk; omega
    iexact HS
  iexact Hg

/-- After any point the scratch buffer may be given back. -/
theorem carried_out (c : Dev nD) (n : ℕ) : carried m c n ⊢ (Pipeline.ΦA spec0 c : sProp 𝕄) := by
  rw [beside_eq]; unfold carried
  iintro ⟨⟨%d, %hd, HS⟩, Hg⟩
  isplitl [HS]
  · iexists d; iexact HS
  iexact Hg

set_option backward.isDefEq.respectTransparency.types false in
set_option maxHeartbeats 800000 in
/-- THE LAUNCH: every run of the kernel's program ends, each array of the pipeline at what the proof data says, every
    other buffer as the host lines after the kernel leave it, every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := carried_in m) (hout := fun c => carried_out m c _)

/-- The kernel's program runs, leaves its argument as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.Tv

end
-- ==== Proof.Printed.lean ====
/-
  The printed kernel is the kernel of the ideal module, word for word, at the machine's own floats. What is proved of the
  latter at every instance of the floats (Proof/Run.lean) is therefore proved of the former.
-/
module

public import proofs.«01_k».proof.Defs
public import proofs.«01_k».proof.Proof.Gen.Kernel
public import proofs.«01_k».proof.Proof.Run

@[expose] public section

noncomputable section

namespace Cert.Tv.Printed

open Idealize.ShloMosaic Idealize.ShloMosaic.TcCoe Idealize.SL.Sem

attribute [local instance] Cert.Kernel.Gen.facts Cert.KernelIdeal.Gen.facts

/-- The two printed texts of the kernel's body are one function. -/
theorem body_same : @Cert.Kernel.cc0_tv_loss Bits _ _ = @Cert.KernelIdeal.cc0_tv_loss Bits _ _ := rfl

/-- The two tables of kernel bodies are one table: each has the one body. -/
theorem bodies_same : @Cert.Kernel.defs₀ Bits _ _ = @Cert.KernelIdeal.defs₀ Bits _ _ := by
  refine congrArg (Defs.onTc (nD := Cert.Kernel.nD) (τ := Cert.Kernel.τ) (sig := Cert.Kernel.sig)
    (Val := Elt Bits) (Λ := Cert.Kernel.Λ₀)) ?_
  funext l x
  match l, x with
  | 0, (t, s) =>
    exact congrFun (congrFun (congrFun (congrFun (congrFun (congrFun (congrFun body_same _) _) _) _) _) _) _

/-- The two programs call the same bodies through the same pipelines. -/
theorem defs_same : @Cert.Kernel.defs Bits _ _ = @Cert.KernelIdeal.defs Bits _ _ :=
  congrArg (Pipeline.defs (Cert.Kernel.pcfgs (F := Bits))) bodies_same

/-- The printed kernel runs, leaves its argument as it was and every counter at zero. -/
theorem frame : quiescent_Kernel (hKernel := Cert.Kernel.Gen.facts) := by
  intro m g _
  rw [defs_same]
  exact Cert.Tv.frame (F := Bits) m g

end Cert.Tv.Printed

end
-- ==== Proof.Result.lean ====
/-
  What the kernel's program returns, for any float values: the first element of the array its last grid point left
  (`returned`). Also what the array that the kernel reads holds: the argument without its leading axis.
-/
module

public import proofs.«01_k».proof.Proof.Run
public import Idealize.ShloMosaic.Lib.Pipeline.ValueKit

@[expose] public section

set_option maxRecDepth 16384

noncomputable section

namespace Cert.Tv

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The kernel's result array after the run: what the last point left. -/
theorem result_array (c : Dev nD) : (dats m 0 c).arrAt 1 cfg0.N = left m c 15 := by
  refine (dats m 0 c).arrAt_eq_of_after_last 1 t0_15 (by decide +kernel) _ fun j => ?_
  rw [after_result]
  rfl

/-- The number the program returns: the first element of the array the kernel left. -/
def returned (c : Dev nD) : Vec F S_ .f32 :=
  shapeCast S_ (extractStridedSlice S1x1x1 ![0, 0, 0] (left m c 15) slices_S1x1x128_S1x1x1_0_0_0) shapeCasts_S1x1x1_S_

/-- What the host lines after the kernel leave in the returned buffer. -/
theorem tail_returned (c : Dev nD) :
    Pipeline.afterTail₀ cfgs (dats m) 0 (V0 m) [hostOps1] c main_v3 = returned m c := by
  unfold Pipeline.afterTail₀
  have h := Pipeline.withArrays_arr spec0 (by decide) c (V0 m c) (fun w => (dats m 0 c).arrAt w (cfgs 0).N) 1
  rw [show (dats m 0 c).arrAt 1 (cfgs 0).N = left m c 15 from result_array m c] at h
  simp only [hostOps1, List.flatten_cons, List.flatten_nil, List.append_nil]
  after_results
  unfold returned
  rw [← h]
  rfl

/-- The image as the kernel's region finds it: the argument without its leading axis. -/
theorem image_eq (c : Dev nD) : V m c main_v0
    = shapeCast S3x4096x4096 (m ((c.tc : Thread nD τ).loc main_arg0)) shapeCasts_S1x3x4096x4096_S3x4096x4096 := by
  show StableHlo.after hostOps0 (fun b => m (c, b)) (Proc.devRef .tc main_v0) = _
  after_results <;> rfl

/-- The kernel's program runs; it returns `returned`, leaves its argument as it was and every counter at zero. -/
theorem run : θ_run defs (onTc (τ := τ) (main (F := F))) ⟨m, fun _ => 0, ρ⟩ (fun r => ∀ c : Dev nD,
      r.2.mem ((c.tc : Thread nD τ).loc main_v3) = returned m c
      ∧ r.2.mem ((c.tc : Thread nD τ).loc main_arg0) = m ((c.tc : Thread nD τ).loc main_arg0)) :=
  (θ_run defs _ _).mono (fun r h c => ⟨(h.1.1.rest_eq c main_v3 (Pipeline.mem_restRefs_of main_v3 (by decide) (by decide))).trans (tail_returned m c), h.2.1 c⟩)
    (θ_run_and (run_main m ρ) (frame m ρ))

end Cert.Tv

end
-- ==== Proof.Numbers.lean ====
/-
  The total variation of an image as real numbers, and its sum block by block.

  The image has three channels of 4096 rows and 4096 columns; `X c h w` is its element at channel `c`, row `h` and
  column `w`. The kernel goes through it in sixteen blocks of 256 rows. On each block it sums the squared differences of
  neighbours with the block's rows taken in a ring, the last row's neighbour being the first; it takes off the differences
  the ring closed wrongly, adds those across the seam with the block before, and on the last block takes off the last row,
  which the total variation leaves out. This file says all of that in real numbers and proves that the sixteen amounts
  add up to the total variation.
-/
module

public import Mathlib.Algebra.BigOperators.Fin
public import Mathlib.Data.EReal.Operations
public import Mathlib.Tactic.Ring
public import Mathlib.Tactic.Linarith

@[expose] public section

noncomputable section

namespace Cert.Tv

open Finset

/-! ## Sums of real numbers among the extended ones -/

/-- A finite sum of real numbers is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `a * b` numbers, each split into its quotient and remainder by `b`, is a sum over two indices. -/
theorem sum_split (a b : ℕ) (f : ℕ → ℕ → ℝ) :
    ∑ r ∈ range (a * b), f (r / b) (r % b) = ∑ i ∈ range a, ∑ j ∈ range b, f i j := by
  induction a with
  | zero => simp
  | succ a ih =>
    rw [Nat.succ_mul, sum_range_add, ih, sum_range_succ]
    congr 1
    refine sum_congr rfl fun j hj => ?_
    have hj := mem_range.mp hj
    rw [Nat.mul_comm a b, Nat.mul_add_div (by omega), Nat.mul_add_mod, Nat.div_eq_of_lt hj, Nat.mod_eq_of_lt hj, Nat.add_zero]

/-! ## What the kernel sums on one block -/

/-- The squared differences with the neighbour to the right and the neighbour below, the block's rows in a ring. -/
def inRing (B : ℕ → ℕ → ℕ → ℝ) : ℝ :=
  ∑ c ∈ range 3, ∑ h ∈ range 256, ∑ w ∈ range 4095,
    ((B c h (w + 1) - B c h w) ^ 2 + (B c ((h + 1) % 256) w - B c h w) ^ 2)

/-- The squared differences of two rows, column by column. -/
def rows (R S : ℕ → ℕ → ℝ) : ℝ := ∑ c ∈ range 3, ∑ w ∈ range 4095, (R c w - S c w) ^ 2

/-- What grid point `n` adds, on the block `B` with `R` the last row of the block before. -/
def step (n : ℕ) (B : ℕ → ℕ → ℕ → ℝ) (R : ℕ → ℕ → ℝ) : ℝ :=
  inRing B - rows (fun c w => B c 0 w) (fun c w => B c 255 w) + (if 0 < n then rows (fun c w => B c 0 w) R else 0)
    - (if n = 15 then rows (fun c w => B c 255 (w + 1)) (fun c w => B c 255 w) else 0)

/-! ## The total variation and its blocks -/

/-- Block `n` of the image. -/
def slab (X : ℕ → ℕ → ℕ → ℝ) (n : ℕ) : ℕ → ℕ → ℕ → ℝ := fun c h w => X c (256 * n + h) w

/-- The last row of the block before block `n`; before the first block it is not used. -/
def above (X : ℕ → ℕ → ℕ → ℝ) (n : ℕ) : ℕ → ℕ → ℝ := fun c w => X c (256 * (n - 1) + 255) w

/-- The total variation before its square root. -/
def variation (X : ℕ → ℕ → ℕ → ℝ) : ℝ :=
  (∑ c ∈ range 3, ∑ h ∈ range 4095, ∑ w ∈ range 4095, (X c h (w + 1) - X c h w) ^ 2)
    + ∑ c ∈ range 3, ∑ h ∈ range 4095, ∑ w ∈ range 4095, (X c (h + 1) w - X c h w) ^ 2

/-- The squared differences along row `h`, all channels. -/
def across (X : ℕ → ℕ → ℕ → ℝ) (h : ℕ) : ℝ := rows (fun c w => X c h (w + 1)) (fun c w => X c h w)

/-- The squared differences between row `h` and the row below, all channels. -/
def down (X : ℕ → ℕ → ℕ → ℝ) (h : ℕ) : ℝ := rows (fun c w => X c (h + 1) w) (fun c w => X c h w)

/-- The total variation, row by row. -/
theorem variation_eq (X : ℕ → ℕ → ℕ → ℝ) :
    variation X = (∑ h ∈ range 4095, across X h) + ∑ h ∈ range 4095, down X h := by
  unfold variation across down rows
  rw [sum_comm (s := range 3), sum_comm (s := range 3)]

/-- The ring of a block, less the difference that closes it wrongly, is the block's rows and the seams inside it. -/
theorem inRing_less_wrap (X : ℕ → ℕ → ℕ → ℝ) (n : ℕ) :
    inRing (slab X n) - rows (fun c w => slab X n c 0 w) (fun c w => slab X n c 255 w)
      = (∑ h ∈ range 256, across X (256 * n + h)) + ∑ h ∈ range 255, down X (256 * n + h) := by
  have e : inRing (slab X n) = (∑ h ∈ range 256, across X (256 * n + h))
      + ∑ h ∈ range 256, rows (fun c w => slab X n c ((h + 1) % 256) w) (fun c w => slab X n c h w) := by
    unfold inRing
    rw [sum_comm, ← sum_add_distrib]
    refine sum_congr rfl fun h _ => ?_
    unfold across rows slab
    simp only [sum_add_distrib]
  rw [e, sum_range_succ (n := 255) (f := fun h => rows (fun c w => slab X n c ((h + 1) % 256) w) _)]
  have e' : ∑ h ∈ range 255, rows (fun c w => slab X n c ((h + 1) % 256) w) (fun c w => slab X n c h w)
      = ∑ h ∈ range 255, down X (256 * n + h) := by
    refine sum_congr rfl fun h hh => ?_
    have hh := mem_range.mp hh
    unfold down slab
    rw [Nat.mod_eq_of_lt (by omega : h + 1 < 256)]
    rfl
  rw [e']
  show _ + (_ + rows (fun c w => slab X n c 0 w) (fun c w => slab X n c 255 w)) - _ = _
  ring

/-- The amounts of the first `n + 1` blocks, short of the last block of all: every row of theirs and every seam above
    the last of those rows. -/
theorem sum_step (X : ℕ → ℕ → ℕ → ℝ) (n : ℕ) (hn : n < 15) :
    ∑ k ∈ range (n + 1), step k (slab X k) (above X k)
      = (∑ h ∈ range (256 * (n + 1)), across X h) + ∑ h ∈ range (256 * n + 255), down X h := by
  induction n with
  | zero =>
    rw [sum_range_one]; unfold step
    rw [inRing_less_wrap, if_neg (by omega), if_neg (by omega)]
    simp only [Nat.mul_zero, Nat.zero_add, Nat.mul_one]; ring
  | succ n ih =>
    rw [sum_range_succ, ih (by omega)]; unfold step
    rw [inRing_less_wrap, if_pos (by omega), if_neg (by omega), show 256 * (n + 1 + 1) = 256 * (n + 1) + 256 by ring,
      sum_range_add _ (256 * (n + 1)) 256, show 256 * (n + 1) + 255 = 256 * n + 255 + 1 + 255 by ring,
      sum_range_add _ (256 * n + 255 + 1) 255, sum_range_succ _ (256 * n + 255)]
    have e : rows (fun c w => slab X (n + 1) c 0 w) (above X (n + 1)) = down X (256 * n + 255) := by
      unfold down slab above
      rw [show 256 * (n + 1) + 0 = 256 * n + 255 + 1 by ring, Nat.add_sub_cancel]
    rw [e, show 256 * n + 255 + 1 = 256 * (n + 1) by ring]
    ring

/-- The sixteen amounts add up to the total variation. -/
theorem sum_steps (X : ℕ → ℕ → ℕ → ℝ) : ∑ k ∈ range 16, step k (slab X k) (above X k) = variation X := by
  rw [sum_range_succ, sum_step X 14 (by omega), variation_eq]; unfold step
  rw [inRing_less_wrap, if_pos (by omega), if_pos rfl]
  have e : rows (fun c w => slab X 15 c 0 w) (above X 15) = down X 3839 := rfl
  have e' : rows (fun c w => slab X 15 c 255 (w + 1)) (fun c w => slab X 15 c 255 w) = across X 4095 := rfl
  have h1 := sum_range_succ (across X) 4095
  have h2 := sum_range_add (across X) 3840 256
  have h3 := sum_range_add (down X) 3840 255
  have h4 := sum_range_succ (down X) 3839
  rw [e, e']
  linarith

end Cert.Tv

end
-- ==== Proof.Step.lean ====
/-
  What the kernel's body adds to the accumulator at one grid point, as a real number: on a block and a carried row whose
  elements are real numbers the body adds `step`, the amount that Numbers.lean defines.
-/
module

public import proofs.«01_k».proof.Proof.Body
public import proofs.«01_k».proof.Proof.Numbers
public import Idealize.ShloMosaic.Lib.Pipeline.ValueKit
public import Idealize.ShloMosaic.Lib.WordCmp

@[expose] public section

set_option maxRecDepth 16384

noncomputable section

namespace Cert.Tv

open Cert.KernelIdeal Cert.KernelIdeal.Gen
open Idealize.ShloMosaic Idealize.ShloMosaic.TcCoe Idealize.ShloMosaic.Tactic
open Finset

/-- The block whose elements are the real numbers `B`. -/
def ofBlock (B : ℕ → ℕ → ℕ → ℝ) : Vec Ideal S3x256x4096 .f32 := fun j => ((B (j 0).val (j 1).val (j 2).val : ℝ) : EReal)

/-- `ofBlock` at an index. -/
theorem ofBlock_at (B : ℕ → ℕ → ℕ → ℝ) (a : Fin 3) (b : Fin 256) (c : Fin 4096) :
    ofBlock B (ix3 a b c) = ((B a.val b.val c.val : ℝ) : EReal) := rfl

/-- The row per channel whose elements are the real numbers `R`. -/
def ofRow (R : ℕ → ℕ → ℝ) : Vec Ideal S3x1x4096 .f32 := fun j => ((R (j 0).val (j 2).val : ℝ) : EReal)

/-- The accumulator holding the real number `a` everywhere. -/
def ofNumber (a : ℝ) : Vec Ideal S1x1x128 .f32 := fun _ => (a : EReal)

/-- `ofRow` at an index. -/
theorem ofRow_at (R : ℕ → ℕ → ℝ) (a : Fin 3) (c : Fin 4096) : ofRow R (ix3 a 0 c) = ((R a.val c.val : ℝ) : EReal) := rfl

/-- The first row of a block of real numbers. -/
theorem topRow_ofBlock (B : ℕ → ℕ → ℕ → ℝ) : topRow (ofBlock B) = ofRow fun c w => B c 0 w := by
  funext j
  idx_vars j
  unfold topRow
  pointwise
  rfl

/-- The last row of a block of real numbers. -/
theorem bottomRow_ofBlock (B : ℕ → ℕ → ℕ → ℝ) : bottomRow (ofBlock B) = ofRow fun c w => B c 255 w := by
  funext j
  idx_vars j
  unfold bottomRow
  pointwise
  rfl

/-- The word for one eighth. -/
theorem eighth : Ideal.ofBits .f32 0x3E000000#32 = ((1 / 8 : ℝ) : EReal) := by
  simp [Ideal.ofBits, Ideal.ieee, -EReal.coe_mul]; norm_num

/-- The mask the body multiplies by: one before the last column, zero on it. -/
theorem mask_eq (k : Fin 4096) : Scalar.select (IntOp.cmpi .slt (BitVec.ofNat 32 k.val) 4095#32) (1 : EReal) 0
    = ((if k.val < 4095 then 1 else 0 : ℝ) : EReal) := by
  have hk := k.isLt
  by_cases h : k.val < 4095
  · rw [show IntOp.cmpi .slt (BitVec.ofNat 32 k.val) 4095#32 = 1#1 by word_cmp, if_pos h]; rfl
  · rw [show IntOp.cmpi .slt (BitVec.ofNat 32 k.val) 4095#32 = 0#1 by word_cmp, if_neg h]; rfl

/-- The mask of the matrix product: one before the last column, zero on it. -/
def mask : FVec Ideal S4096x8 .f32 :=
  select (cmpi .slt (iota .tc S4096x8 32 [0] iota_S4096x8_d0_w32) (broadcast S4096x8 4095#32))
    (broadcast S4096x8 (Scalar.ofBits (F := Ideal) .f32 0x3F800000#32))
    (broadcast S4096x8 (Scalar.ofBits (F := Ideal) .f32 0x00000000#32))

/-- The mask at an index. -/
theorem mask_at (a : Fin 4096) (b : Fin 8) : mask (ix2 a b) = ((if a.val < 4095 then 1 else 0 : ℝ) : EReal) := by
  rw [← mask_eq]
  unfold mask
  pointwise

/-- The body's two squared differences at every element of a block, the axes in a ring. -/
def squares (x : FVec Ideal S3x256x4096 .f32) : FVec Ideal S3x256x4096 .f32 :=
  addf (mulf (subf (dynamicRotate 2 4095#32 none x rotates_S3x256x4096_d2) x) (subf (dynamicRotate 2 4095#32 none x rotates_S3x256x4096_d2) x))
    (mulf (subf (dynamicRotate 1 255#32 none x rotates_S3x256x4096_d1) x) (subf (dynamicRotate 1 255#32 none x rotates_S3x256x4096_d1) x))

set_option maxRecDepth 100000 in
/-- The block turned by one column: each element's neighbour to the right, the last column's being the first. -/
theorem right_at (x : FVec Ideal S3x256x4096 .f32) (a : Fin 3) (b : Fin 256) (c : Fin 4096) :
    dynamicRotate 2 4095#32 none x rotates_S3x256x4096_d2 (ix3 a b c) = x (ix3 a b ⟨(c.val + 1) % 4096, Nat.mod_lt _ (by decide)⟩) := by
  pointwise
  exact congrArg (fun k => x (ix3 a b k)) (Fin.ext (show (c.val + 4096 - 4095) % 4096 = (c.val + 1) % 4096 by omega))

/-- The block turned by one row: each element's neighbour below, the last row's being the first. -/
theorem below_at (x : FVec Ideal S3x256x4096 .f32) (a : Fin 3) (b : Fin 256) (c : Fin 4096) :
    dynamicRotate 1 255#32 none x rotates_S3x256x4096_d1 (ix3 a b c) = x (ix3 a ⟨(b.val + 1) % 256, Nat.mod_lt _ (by decide)⟩ c) := by
  pointwise
  exact congrArg (fun k => x (ix3 a k c)) (Fin.ext (show (b.val + 256 - 255) % 256 = (b.val + 1) % 256 by omega))

/-- The two squared differences at an index, on a block of real numbers. -/
theorem squares_at (B : ℕ → ℕ → ℕ → ℝ) (a : Fin 3) (b : Fin 256) (c : Fin 4096) : squares (ofBlock B) (ix3 a b c)
    = (((B a.val b.val ((c.val + 1) % 4096) - B a.val b.val c.val) ^ 2
        + (B a.val ((b.val + 1) % 256) c.val - B a.val b.val c.val) ^ 2 : ℝ) : EReal) := by
  unfold squares
  simp only [addf_apply, mulf_apply, subf_apply, Ideal.addf_def, Ideal.mulf_def, Ideal.subf_def]
  rw [right_at (ofBlock B) a b c, below_at (ofBlock B) a b c]
  simp only [ofBlock_at, pow_two, EReal.coe_add, EReal.coe_mul, EReal.coe_sub]

/-- The body's sum of a block's elements: through the matrix product with the mask, eight equal columns, an eighth of it. -/
def massed (y : FVec Ideal S3x256x4096 .f32) (k : FVec Ideal S4096x8 .f32) : Ideal .f32 :=
  Scalar.mulf (extractAt ![0, 0, 0] (shapeCast S1x1x1 (multiReduction .add [1, 2] S1 (shapeCast S1x768x8
    (matmul dot_S768x4096_S4096x8_S768x8_1_0_0_1_n_n none (shapeCast S768x4096 y shapeCasts_S3x256x4096_S768x4096) k
      (constant S768x8 .f32 0x00000000#32)) shapeCasts_S768x8_S1x768x8) 0x00000000#32 reduces_S1x768x8_S1 (.inl rfl) rfl)
    shapeCasts_S1_S1x1x1) inpos_S1x1x1_p0_0_0) (Scalar.ofBits .f32 0x3E000000#32)

/-- `massed` as a sum: over the rows of the three channels, the eight equal columns and the columns of the block. -/
theorem massed_eq (y : FVec Ideal S3x256x4096 .f32) (k : FVec Ideal S4096x8 .f32) : massed y k
    = (∑ r : Fin 768, ∑ e : Fin 8, ∑ w : Fin 4096, y (ix3 ⟨r.val / 256, by omega⟩ ⟨r.val % 256, by omega⟩ w) * k (ix2 w e)) * ((1 / 8 : ℝ) : EReal) := by
  rw [← eighth]
  unfold massed
  pointwise

/-- The body's sum of the squared differences of two rows, the last column left out. -/
def rowsOf (d : FVec Ideal S3x4095 .f32) : Ideal .f32 :=
  extractAt ![0, 0, 0] (shapeCast S1x1x1 (multiReduction .add [1, 2] S1 (shapeCast S1x3x4095 (mulf d d)
    shapeCasts_S3x4095_S1x3x4095) 0x00000000#32 reduces_S1x3x4095_S1 (.inl rfl) rfl) shapeCasts_S1_S1x1x1)
    inpos_S1x1x1_p0_0_0

/-- On the differences of two rows of real numbers, `rowsOf` is `rows`. -/
theorem rowsOf_eq (d : FVec Ideal S3x4095 .f32) (R S : ℕ → ℕ → ℝ)
    (h : ∀ (a : Fin 3) (b : Fin 4095), d (ix2 a b) = ((R a.val b.val - S a.val b.val : ℝ) : EReal)) :
    rowsOf d = ((rows R S : ℝ) : EReal) := by
  unfold rowsOf
  pointwise
  simp only [h, ← EReal.coe_mul, ← coe_sum]
  unfold rows
  rw [Finset.sum_range]
  simp only [Finset.sum_range, pow_two]

/-- The body's first amount in its two parts. -/
theorem pay7_parts (x : Vec Ideal S3x256x4096 .f32) (a b : Vec Ideal S3x1x4096 .f32) : k0_pay7 x a b
    = massed (squares (shapeCast S3x256x4096 x shapeCasts_S3x256x4096_S3x256x4096)) mask
      - rowsOf (extractStridedSlice S3x4095 ![0, 0] (subf (k0_pay5 a) (k0_pay6 b)) slices_S3x4096_o0_0_S3x4095) := rfl

/-- The body's weighted sum of a block's squares is the sum in the block's ring. -/
theorem massed_squares (B : ℕ → ℕ → ℕ → ℝ) : massed (squares (ofBlock B)) mask = ((inRing B : ℝ) : EReal) := by
  rw [massed_eq]
  simp only [squares_at, mask_at, ← EReal.coe_mul, ← coe_sum]
  congr 1
  let t : ℕ → ℕ → ℕ → ℝ := fun c h w => (B c h (w + 1) - B c h w) ^ 2 + (B c ((h + 1) % 256) w - B c h w) ^ 2
  have row : ∀ c h : ℕ, ∑ w : Fin 4096, ((B c h ((w.val + 1) % 4096) - B c h w.val) ^ 2 + (B c ((h + 1) % 256) w.val - B c h w.val) ^ 2)
      * (if w.val < 4095 then 1 else 0) = ∑ w ∈ range 4095, t c h w := by
    intro c h
    rw [← Finset.sum_range (fun w => ((B c h ((w + 1) % 4096) - B c h w) ^ 2 + (B c ((h + 1) % 256) w - B c h w) ^ 2)
      * (if w < 4095 then 1 else 0)), sum_range_succ, if_neg (by omega), mul_zero, add_zero]
    refine sum_congr rfl fun w hw => ?_
    have hw := mem_range.mp hw
    rw [if_pos hw, mul_one, Nat.mod_eq_of_lt (by omega : w + 1 < 4096)]
  simp only [row, Finset.sum_const, Finset.card_univ, Fintype.card_fin]
  rw [← Finset.sum_range (fun r => 8 • ∑ w ∈ range 4095, t (r / 256) (r % 256) w), ← Finset.smul_sum,
    sum_split 3 256 (fun c h => ∑ w ∈ range 4095, t c h w)]
  unfold inRing
  rw [nsmul_eq_mul]
  push_cast
  ring

/-- The body's difference of two rows, at an index. -/
theorem pay8_at (R S : ℕ → ℕ → ℝ) (a : Fin 3) (b : Fin 4095) :
    k0_pay8 (F := Ideal) (ofRow R) (ofRow S) (ix2 a b) = ((R a.val b.val - S a.val b.val : ℝ) : EReal) := by
  unfold k0_pay8 k0_pay5
  pointwise
  rfl

/-- The body's sum inside a block, the ring's closing difference taken off. -/
theorem pay7_ofBlock (B : ℕ → ℕ → ℕ → ℝ) (R S : ℕ → ℕ → ℝ) :
    k0_pay7 (F := Ideal) (ofBlock B) (ofRow R) (ofRow S) = ((inRing B - rows R S : ℝ) : EReal) := by
  rw [pay7_parts, shapeCast_self, massed_squares, rowsOf_eq _ R S]
  · rfl
  · intro a b
    unfold k0_pay5 k0_pay6
    pointwise
    rfl

/-- The body's new accumulator in its parts. -/
theorem pay2_parts (w : BitVec 32) (b : Vec Ideal S3x4096 .f32) (v : Ideal .f32) (d : Vec Ideal S3x4095 .f32)
    (o : Vec Ideal S1x1x128 .f32) (j) : k0_pay2 w b v d o j
      = o j + ((v + Scalar.select (Scalar.cmpi .sgt w 0#32) (rowsOf d) 0)
        - Scalar.select (Scalar.cmpi .eq w 15#32) (rowsOf (subf (extractStridedSlice S3x4095 ![0, 1] b slices_S3x4096_o0_1_S3x4095)
            (extractStridedSlice S3x4095 ![0, 0] b slices_S3x4096_o0_0_S3x4095))) 0) := by
  idx_vars j
  unfold k0_pay2 rowsOf
  pointwise

/-- The body at grid point `n` adds the real number `step` to the accumulator. -/
theorem added_ofBlock (i : grid0.Coords) (n : ℕ) (hi : (i 0).val = n) (hn : n < 16) (B : ℕ → ℕ → ℕ → ℝ) (R : ℕ → ℕ → ℝ) (a : ℝ) :
    added (F := Ideal) i (ofBlock B) (ofRow R) (ofNumber a) = ofNumber (a + step n B R) := by
  funext j
  unfold added
  rw [pay2_parts, topRow_ofBlock, bottomRow_ofBlock, pay7_ofBlock, hi, rowsOf_eq _ _ _ (pay8_at _ _),
    rowsOf_eq _ (fun c w => B c 255 (w + 1)) (fun c w => B c 255 w)]
  · have h1 : Scalar.select (Scalar.cmpi .sgt (BitVec.ofNat 32 n) 0#32) ((rows (fun c w => B c 0 w) R : ℝ) : EReal) 0
        = ((if 0 < n then rows (fun c w => B c 0 w) R else 0 : ℝ) : EReal) := by
      by_cases h : 0 < n
      · rw [show Scalar.cmpi .sgt (BitVec.ofNat 32 n) 0#32 = 1#1 by word_cmp, if_pos h]; rfl
      · rw [show Scalar.cmpi .sgt (BitVec.ofNat 32 n) 0#32 = 0#1 by word_cmp, if_neg h]; rfl
    have h2 : Scalar.select (Scalar.cmpi .eq (BitVec.ofNat 32 n) 15#32)
        ((rows (fun c w => B c 255 (w + 1)) (fun c w => B c 255 w) : ℝ) : EReal) 0
        = ((if n = 15 then rows (fun c w => B c 255 (w + 1)) (fun c w => B c 255 w) else 0 : ℝ) : EReal) := by
      by_cases h : n = 15
      · rw [show Scalar.cmpi .eq (BitVec.ofNat 32 n) 15#32 = 1#1 by word_cmp, if_pos h]; rfl
      · rw [show Scalar.cmpi .eq (BitVec.ofNat 32 n) 15#32 = 0#1 by word_cmp, if_neg h]; rfl
    rw [h1, h2]
    simp only [ofNumber, step, EReal.coe_add, EReal.coe_sub]
  · intro a b
    unfold k0_pay6
    pointwise
    simp only [ofRow_at, EReal.coe_sub, Nat.add_comm 1]

end Cert.Tv

end
-- ==== Proof.Image.lean ====
/-
  What the precondition gives: every element of the image is a real number. The image is then `ofImage X` for real
  numbers `X c h w`, and so is the array that the kernel reads, the image without its leading axis.
-/
module

public import proofs.«01_k».proof.Pre_finite
public import proofs.«01_k».proof.Proof.Step

@[expose] public section

set_option maxRecDepth 16384

noncomputable section

namespace Cert.Tv

open Cert.KernelIdeal Cert.KernelIdeal.Gen
open Idealize.ShloMosaic Idealize.ShloMosaic.TcCoe Idealize.ShloMosaic.Tactic

/-- The one shape relation that the precondition states. -/
instance preFacts : Cert.Pre_finite.Facts := ⟨by decide⟩

/-- The image whose elements are the real numbers `X`. -/
def ofImage (X : ℕ → ℕ → ℕ → ℝ) : FVec Ideal S1x3x4096x4096 .f32 := fun j => ((X (j 1).val (j 2).val (j 3).val : ℝ) : EReal)

/-- `ofImage` at an index. -/
theorem ofImage_at (X : ℕ → ℕ → ℕ → ℝ) (a : Fin 1) (b : Fin 3) (c d : Fin 4096) :
    ofImage X (ix4 a b c d) = ((X b.val c.val d.val : ℝ) : EReal) := rfl

/-- The word the precondition compares with is the one for infinity. -/
theorem infinity : Ideal.ofBits .f32 0x7F800000#32 = (⊤ : EReal) := by
  simp [Ideal.ofBits, Ideal.ieee]

/-- An element that the precondition holds of is a real number. -/
theorem finite_at (A : FVec Ideal S1x3x4096x4096 .f32) (h : Cert.Pre_finite.fn A = fun _ => 1#1) (j : S1x3x4096x4096.Idx) :
    ∃ r : ℝ, A j = (r : EReal) := by
  have e := congrFun h j
  unfold Cert.Pre_finite.fn at e
  pointwise at e
  rw [infinity] at e
  generalize A j = a at e
  have h' : FloatOps.absf (F := Ideal) (φ := .f32) a < (⊤ : EReal) := by
    by_contra hn
    rw [decide_eq_false hn] at e
    exact absurd e (by decide)
  induction a using EReal.rec with
  | bot => exact absurd h' (by simp [FloatOps.absf])
  | top => exact absurd h' (by simp [FloatOps.absf])
  | coe r => exact ⟨r, rfl⟩

/-- An image that meets the precondition is an image of real numbers. -/
theorem exists_numbers (A : FVec Ideal S1x3x4096x4096 .f32) (h : Cert.Pre_finite.fn A = fun _ => 1#1) :
    ∃ X : ℕ → ℕ → ℕ → ℝ, A = ofImage X := by
  choose r hr using finite_at A h
  refine ⟨fun c h w => if k : c < 3 ∧ h < 4096 ∧ w < 4096 then r (ix4 0 ⟨c, k.1⟩ ⟨h, k.2.1⟩ ⟨w, k.2.2⟩) else 0, ?_⟩
  funext j
  idx_vars j
  obtain rfl : j0 = 0 := Subsingleton.elim _ _
  rw [hr, ofImage_at, dif_pos ⟨j1.isLt, j2.isLt, j3.isLt⟩]

end Cert.Tv

end
-- ==== Proof.Value.lean ====
/-
  What the kernel returns on an image of real numbers: after each grid point the accumulator holds the sum of the amounts
  so far, and the returned number is the square root of the total variation that Numbers.lean defines.
-/
module

public import proofs.«01_k».proof.Proof.Result
public import proofs.«01_k».proof.Proof.Image

@[expose] public section

set_option maxRecDepth 16384

noncomputable section

namespace Cert.Tv

open Cert.KernelIdeal Cert.KernelIdeal.Gen
open Idealize.ShloMosaic Idealize.ShloMosaic.TcCoe Idealize.ShloMosaic.Tactic
open Idealize.SL.Sem
open Finset

/-- The image's window moves down by one block of rows per grid point. -/
theorem window_index : ∀ t : Fin cfg0.N, win0_0.index t = ![0, (grid0.coords t 0).val, 0] :=
  (by decide +kernel : ∀ t : Fin grid0.N, _)

/-- The image without its leading axis, at an index. -/
theorem flat_at (X : ℕ → ℕ → ℕ → ℝ) (a : Fin 3) (b c : Fin 4096) :
    shapeCast S3x4096x4096 (ofImage X) shapeCasts_S1x3x4096x4096_S3x4096x4096 (ix3 a b c) = ((X a.val b.val c.val : ℝ) : EReal) := by
  pointwise
  exact ofImage_at X 0 a b c

variable (m : (ℓ : Loc nD τ sig) → Buf (Elt Ideal) ℓ) (c : Dev nD) (X : ℕ → ℕ → ℕ → ℝ)
  (hX : m ((c.tc : Thread nD τ).loc main_arg0) = ofImage X)

include hX

/-- The block that grid point `n` works on. -/
theorem block_eq (n : ℕ) (hn : n < 16) : block m c n = ofBlock (slab X n) := by
  have hV := (image_eq m c).trans (congrArg (fun A => shapeCast S3x4096x4096 A shapeCasts_S1x3x4096x4096_S3x4096x4096) hX)
  funext j
  idx_vars j
  unfold block iblk
  blk_simp
  have e : (win0_0.blk (pt n)).view.emb (ix3 j0 j1 j2) = ix3 j0 ⟨256 * n + j1.val, by omega⟩ j2 := by
    blk_ext [window_index (pt n), coords_val (pt n)]
    rw [show (pt n).val = n from Nat.mod_eq_of_lt hn, Nat.mul_comm]
  rw [e, hV, flat_at, ofBlock_at, slab]

/-- After grid point `n` the accumulator holds the sum of the amounts so far. -/
theorem total_eq (n : ℕ) (hn : n < 16) :
    total m c n = ofNumber (∑ k ∈ range (n + 1), step k (slab X k) (above X k)) := by
  induction n with
  | zero =>
    unfold total
    rw [block_eq m c X hX 0 hn, bottomRow_ofBlock,
      show (k0_pay1 : FVec Ideal S1x1x128 .f32) = ofNumber 0 from funext fun j => Ideal.ofBits_zero_f32,
      added_ofBlock _ 0 (coords_val (pt 0)) hn, sum_range_one, zero_add]
    rfl
  | succ n ih =>
    unfold total
    rw [ih (by omega), block_eq m c X hX (n + 1) hn, block_eq m c X hX n (by omega), bottomRow_ofBlock,
      added_ofBlock _ (n + 1) ((coords_val (pt (n + 1))).trans (Nat.mod_eq_of_lt hn)) hn,
      sum_range_succ _ (n + 1)]
    rfl

/-- The kernel returns the square root of the total variation. -/
theorem returned_eq (j : S_.Idx) : returned m c j = Ideal.sqrt ((variation X : ℝ) : EReal) := by
  have h : left m c 15 = fun _ => Ideal.sqrt ((variation X : ℝ) : EReal) := by
    unfold left
    rw [if_pos rfl, total_eq m c X hX 15 (by decide), sum_steps]
    funext j
    unfold k0_pay4
    rw [shapeCast_self]
    rfl
  unfold returned
  rw [h]
  rfl

end Cert.Tv

end
-- ==== Proof.Reference.lean ====
/-
  The reference: it runs, leaves its argument and every counter as they were, and on an image of real numbers returns
  the square root of the total variation that Numbers.lean defines.
-/
module

public import proofs.«01_k».proof.Proof.Gen.ReferenceIdeal.Run
public import proofs.«01_k».proof.Proof.Image
public import Idealize.ShloMosaic.Lib.Pipeline.ValueKit
public import Idealize.ShloMosaic.Lib.Quiescent

@[expose] public section

set_option maxRecDepth 16384

noncomputable section

namespace Cert.Tv.Reference

open Cert.ReferenceIdeal Cert.ReferenceIdeal.Gen
open Idealize.ShloMosaic Idealize.ShloMosaic.TcCoe Idealize.ShloMosaic.Tactic
open Idealize.SL.Sem
open Finset

/-- The reference runs, leaves its argument as it was, and every counter at zero: it has no counter. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩)
    (Cert.ReferenceIdeal.Value.run m ρ)

/-- The image without its leading axis. -/
def flat (A : FVec Ideal S1x3x4096x4096 .f32) : FVec Ideal S3x4096x4096 .f32 :=
  shapeCast S3x4096x4096 A shapeCasts_S1x3x4096x4096_S3x4096x4096

/-- `flat` of an image of real numbers, at an index. -/
theorem flat_at (X : ℕ → ℕ → ℕ → ℝ) (a : Fin 3) (b c : Fin 4096) :
    flat (ofImage X) (ix3 a b c) = ((X a.val b.val c.val : ℝ) : EReal) := by
  unfold flat
  pointwise
  exact ofImage_at X 0 a b c

/-- The differences of horizontal neighbours, the last row and column left out. -/
def dx (x : FVec Ideal S3x4096x4096 .f32) : FVec Ideal S3x4095x4095 .f32 :=
  subf (extractStridedSlice S3x4095x4095 ![0, 0, 1] x slices_S3x4096x4096_S3x4095x4095_0_0_1)
    (extractStridedSlice S3x4095x4095 ![0, 0, 0] x slices_S3x4096x4096_S3x4095x4095_0_0_0)

/-- The differences of vertical neighbours, the last row and column left out. -/
def dy (x : FVec Ideal S3x4096x4096 .f32) : FVec Ideal S3x4095x4095 .f32 :=
  subf (extractStridedSlice S3x4095x4095 ![0, 1, 0] x slices_S3x4096x4096_S3x4095x4095_0_1_0)
    (extractStridedSlice S3x4095x4095 ![0, 0, 0] x slices_S3x4096x4096_S3x4095x4095_0_0_0)

/-- The sum of the squares of an array of differences. -/
def squaresOf (d : FVec Ideal S3x4095x4095 .f32) : FVec Ideal S_ .f32 :=
  Host.reduceAdd (mulf d d) (constant S_ .f32 0x00000000#32) reducesTo_S3x4095x4095_S_d0_1_2 h_S_

/-- What the reference returns on the image `A`. -/
def answer (A : FVec Ideal S1x3x4096x4096 .f32) : FVec Ideal S_ .f32 :=
  Host.sqrt (addf (squaresOf (dx (flat A))) (squaresOf (dy (flat A))))

/-- `dx` of an image of real numbers, at an index. -/
theorem dx_at (X : ℕ → ℕ → ℕ → ℝ) (a : Fin 3) (b c : Fin 4095) : dx (flat (ofImage X)) (ix3 a b c)
    = ((X a.val b.val (c.val + 1) - X a.val b.val c.val : ℝ) : EReal) := by
  have h := flat_at X
  generalize flat (ofImage X) = x at h ⊢
  unfold dx
  pointwise
  simp only [h, EReal.coe_sub, Nat.add_comm 1]

/-- `dy` of an image of real numbers, at an index. -/
theorem dy_at (X : ℕ → ℕ → ℕ → ℝ) (a : Fin 3) (b c : Fin 4095) : dy (flat (ofImage X)) (ix3 a b c)
    = ((X a.val (b.val + 1) c.val - X a.val b.val c.val : ℝ) : EReal) := by
  have h := flat_at X
  generalize flat (ofImage X) = x at h ⊢
  unfold dy
  pointwise
  simp only [h, EReal.coe_sub, Nat.add_comm 1]

/-- The sum of the squares of an array of real numbers `D` is the sum over the three coordinates. -/
theorem squaresOf_eq (d : FVec Ideal S3x4095x4095 .f32) (D : ℕ → ℕ → ℕ → ℝ)
    (h : ∀ (a : Fin 3) (b c : Fin 4095), d (ix3 a b c) = ((D a.val b.val c.val : ℝ) : EReal)) (j : S_.Idx) :
    squaresOf d j = ((∑ c ∈ range 3, ∑ h ∈ range 4095, ∑ w ∈ range 4095, D c h w ^ 2 : ℝ) : EReal) := by
  unfold squaresOf
  pointwise
  simp only [h, ← EReal.coe_mul, ← coe_sum]
  rw [Finset.sum_range]
  simp only [Finset.sum_range, pow_two]

/-- The sum of two numbers, at its one index. -/
theorem sum_at (s t : FVec Ideal S_ .f32) (j : S_.Idx) : addf s t j = (s j + t j : EReal) := rfl

/-- The square root of a number, at its one index. -/
theorem root_at (s : FVec Ideal S_ .f32) (j : S_.Idx) : Host.sqrt s j = Ideal.sqrt (s j) := rfl

/-- On an image of real numbers the reference returns the square root of its total variation. -/
theorem answer_eq (X : ℕ → ℕ → ℕ → ℝ) (j : S_.Idx) : answer (ofImage X) j = Ideal.sqrt ((variation X : ℝ) : EReal) := by
  have ex := squaresOf_eq (dx (flat (ofImage X))) (fun c h w => X c h (w + 1) - X c h w) (dx_at X) j
  have ey := squaresOf_eq (dy (flat (ofImage X))) (fun c h w => X c (h + 1) w - X c h w) (dy_at X) j
  unfold answer
  rw [root_at, sum_at, ex, ey, ← EReal.coe_add, variation]

/-- The reference runs and returns `answer` of its argument, which it leaves as it was. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = answer (m ((c.tc : Thread nD τ).loc main_arg0))
      ∧ r.2.mem ((c.tc : Thread nD τ).loc main_arg0) = m ((c.tc : Thread nD τ).loc main_arg0)) :=
  Cert.ReferenceIdeal.Value.run m ρ

end Cert.Tv.Reference

end
-- ==== Proof.lean ====
/-
  The total-variation norm of an image, computed by a kernel in sixteen blocks of rows: the proof of `Cert.Claim`.

  The kernel, as printed and at the ideal instance, and the reference each run, leave the argument as it was and every
  counter at zero. On an image whose elements are finite, the kernel and the reference return the same number: both
  return the square root of the total variation (Proof/Value.lean, Proof/Reference.lean).
-/
module

public import proofs.«01_k».proof.Defs
public import proofs.«01_k».proof.Proof.Gen.Kernel
public import proofs.«01_k».proof.Proof.Printed
public import proofs.«01_k».proof.Proof.Value
public import proofs.«01_k».proof.Proof.Reference

@[expose] public section

noncomputable section

namespace Cert.Proof

open Idealize.ShloMosaic Idealize.ShloMosaic.TcCoe Idealize.SL.Sem

/-- The printed kernel runs, leaves its argument as it was and every counter at zero. -/
theorem kernel_frame : quiescent_Kernel (hKernel := Cert.Kernel.Gen.facts) :=
  Cert.Tv.Printed.frame

/-- The kernel at the ideal instance runs, leaves its argument as it was and every counter at zero. -/
theorem ideal_frame : quiescent_KernelIdeal (hKernelIdeal := Cert.KernelIdeal.Gen.facts) :=
  fun m g _ => Cert.Tv.frame m g

/-- The reference runs, leaves its argument as it was and every counter at zero. -/
theorem reference_frame : quiescent_ReferenceIdeal (hReferenceIdeal := Cert.ReferenceIdeal.Gen.facts) :=
  fun m g _ => Cert.Tv.Reference.frame m g

/-- On an image of finite elements the kernel returns what the reference returns. -/
theorem same (m : (ℓ : Loc Cert.KernelIdeal.nD Cert.KernelIdeal.τ Cert.KernelIdeal.sig) → Buf (Elt Ideal) ℓ)
    (h : Pre_KernelIdeal_finite m) (c : Dev Cert.KernelIdeal.nD) :
    Cert.Tv.Reference.answer (m ((c.tc : Thread Cert.KernelIdeal.nD Cert.KernelIdeal.τ).loc Cert.KernelIdeal.main_arg0))
      = Cert.Tv.returned m c := by
  obtain ⟨X, hX⟩ := Cert.Tv.exists_numbers _ (h c)
  funext j
  rw [hX, Cert.Tv.Reference.answer_eq X j]
  exact (Cert.Tv.returned_eq m c X hX j).symm

/-- The kernel and the reference, from memories that agree on an image of finite elements, return the same number. -/
theorem equal : algebraic_KernelIdeal_ReferenceIdeal_pre_finite (hKernelIdeal := Cert.KernelIdeal.Gen.facts)
    (hReferenceIdeal := Cert.ReferenceIdeal.Gen.facts) (hPre_finite := Cert.Tv.preFacts) := by
  intro m g m' g' hpre hagree
  refine ⟨fun c => Cert.Tv.returned m c, Cert.Tv.run m g, ?_⟩
  refine (θ_run Cert.ReferenceIdeal.defs _ _).mono (fun r h c => ⟨?_, (h c).2⟩) (Cert.Tv.Reference.run m' g')
  exact (h c).1.trans ((congrArg Cert.Tv.Reference.answer (hagree c)).trans (same m hpre c))

/-- Everything this certificate claims. -/
theorem claim : Cert.Claim :=
  ⟨Cert.Kernel.Gen.facts, Cert.KernelIdeal.Gen.facts, Cert.ReferenceIdeal.Gen.facts, Cert.Tv.preFacts,
    kernel_frame, ideal_frame, fun m g _ => Cert.Tv.frame m g, reference_frame,
    fun m g _ => Cert.Tv.Reference.frame m g, trivial, equal⟩

end Cert.Proof

end
